-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S32768x64 : Shape := ⟨2, ![32768, 64]⟩
abbrev S1024x64 : Shape := ⟨2, ![1024, 64]⟩
abbrev S_ : Shape := ⟨0, ![]⟩

class Facts : Prop where
  bcast_S_S32768x64 : S_.BroadcastsInDim S32768x64 (![] : Fin 0 → Fin S32768x64.rank)
  reducesTo_S32768x64_S_d0_1 : S32768x64.ReducesTo [0, 1] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn {F : FTy → Type} [FloatOps F] (main_arg0 : FVec F S32768x64 .f32) (main_arg1 : FVec F S1024x64 .f32) : IVec S_ 1 :=
  let main_cst : FVec F S_ .f32 := constant S_ .f32 0xFF800000#32
  let main_v0 : FVec F S32768x64 .f32 := broadcastInDim S32768x64 ![] bcast_S_S32768x64 main_cst
  let main_v1 : IVec S32768x64 1 := cmpf .ogt main_arg0 main_v0
  let main_cst_0 : FVec F S_ .f32 := constant S_ .f32 0x7F800000#32
  let main_v2 : FVec F S32768x64 .f32 := broadcastInDim S32768x64 ![] bcast_S_S32768x64 main_cst_0
  let main_v3 : IVec S32768x64 1 := cmpf .olt main_arg0 main_v2
  let main_v4 : IVec S32768x64 1 := andi main_v1 main_v3
  let main_c : IVec S_ 1 := constantI S_ 1 1#1
  let main_v5 : IVec S_ 1 := (fun x v => Host.reduce IntOp.andi x v reducesTo_S32768x64_S_d0_1 h_S_) main_v4 main_c
  let main_cst_1 : FVec F S_ .f32 := constant S_ .f32 0xFF800000#32
  let main_v6 : FVec F S1024x64 .f32 := broadcastInDim S1024x64 ![] bcast_S_S1024x64 main_cst_1
  let main_v7 : IVec S1024x64 1 := cmpf .ogt main_arg1 main_v6
  let main_cst_2 : FVec F S_ .f32 := constant S_ .f32 0x7F800000#32
  let main_v8 : FVec F S1024x64 .f32 := broadcastInDim S1024x64 ![] bcast_S_S1024x64 main_cst_2
  let main_v9 : IVec S1024x64 1 := cmpf .olt main_arg1 main_v8
  let main_v10 : IVec S1024x64 1 := andi main_v7 main_v9
  let main_c_3 : IVec S_ 1 := constantI S_ 1 1#1
  let main_v11 : IVec S_ 1 := (fun x v => Host.reduce IntOp.andi x v reducesTo_S1024x64_S_d0_1 h_S_) main_v10 main_c_3
  let main_v12 : IVec S_ 1 := andi main_v5 main_v11
  main_v12
-- ==== Kernel.lean ====
abbrev S32768x64 : Shape := ⟨2, ![32768, 64]⟩
abbrev S1024x64 : Shape := ⟨2, ![1024, 64]⟩
abbrev S32768 : Shape := ⟨1, ![32768]⟩
abbrev S4096x64 : Shape := ⟨2, ![4096, 64]⟩
abbrev S4096 : Shape := ⟨1, ![4096]⟩
abbrev S1024 : Shape := ⟨1, ![1024]⟩
abbrev S1024x1 : Shape := ⟨2, ![1024, 1]⟩
abbrev S64x4096 : Shape := ⟨2, ![64, 4096]⟩
abbrev S256x64 : Shape := ⟨2, ![256, 64]⟩
abbrev S256x4096 : Shape := ⟨2, ![256, 4096]⟩
abbrev S256x1 : Shape := ⟨2, ![256, 1]⟩
abbrev S8x4096 : Shape := ⟨2, ![8, 4096]⟩
abbrev S4x4096 : Shape := ⟨2, ![4, 4096]⟩
abbrev S2x4096 : Shape := ⟨2, ![2, 4096]⟩
abbrev S1x4096 : Shape := ⟨2, ![1, 4096]⟩

abbrev nBuf : Space → Nat
  | .hbm => 3
  | .vmem => 5
  | .smem => 0
  | _ => 0

abbrev bufTy : (tb : Table) → Fin (tcTables nBuf tb) → BufTy
  | .hbm, ⟨0, _⟩ => ⟨S32768x64, .f32⟩
  | .hbm, ⟨1, _⟩ => ⟨S1024x64, .f32⟩
  | .hbm, ⟨2, _⟩ => ⟨S32768, .i32⟩
  | .local _ .vmem, ⟨0, _⟩ => ⟨S4096x64, .f32⟩
  | .local _ .vmem, ⟨1, _⟩ => ⟨S4096x64, .f32⟩
  | .local _ .vmem, ⟨2, _⟩ => ⟨S1024x64, .f32⟩
  | .local _ .vmem, ⟨3, _⟩ => ⟨S4096, .i32⟩
  | .local _ .vmem, ⟨4, _⟩ => ⟨S4096, .i32⟩
  | _, _ => ⟨S32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S32768x64 : Shape := ⟨2, ![32768, 64]⟩
abbrev S1024x64 : Shape := ⟨2, ![1024, 64]⟩
abbrev S_ : Shape := ⟨0, ![]⟩
abbrev S32768 : Shape := ⟨1, ![32768]⟩
abbrev S32768x1 : Shape := ⟨2, ![32768, 1]⟩
abbrev S1024 : Shape := ⟨1, ![1024]⟩
abbrev S1x1024 : Shape := ⟨2, ![1, 1024]⟩
abbrev S64x1024 : Shape := ⟨2, ![64, 1024]⟩
abbrev S32768x1024 : Shape := ⟨2, ![32768, 1024]⟩

abbrev nBuf : Space → Nat
  | .hbm => 24
  | .vmem => 0
  | .smem => 0
  | _ => 0

abbrev bufTy : (tb : Table) → Fin (tcTables nBuf tb) → BufTy
  | .hbm, ⟨0, _⟩ => ⟨S32768x64, .f32⟩
  | .hbm, ⟨1, _⟩ => ⟨S1024x64, .f32⟩
  | .hbm, ⟨2, _⟩ => ⟨S32768x64, .f32⟩
  | .hbm, ⟨3, _⟩ => ⟨S_, .f32⟩
  | .hbm, ⟨4, _⟩ => ⟨S32768, .f32⟩
  | .hbm, ⟨5, _⟩ => ⟨S32768x1, .f32⟩
  | .hbm, ⟨6, _⟩ => ⟨S1024x64, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S64x1024, .f32⟩
  | .hbm, ⟨11, _⟩ => ⟨S32768x1024, .f32⟩
  | .hbm, ⟨12, _⟩ => ⟨S_, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S32768x1024, .f32⟩
  | .hbm, ⟨18, _⟩ => ⟨S32768x1024, .f32⟩
  | .hbm, ⟨19, _⟩ => ⟨S32768x1024, .i32⟩
  | .hbm, ⟨20, _⟩ => ⟨S_, .f32⟩
  | .hbm, ⟨21, _⟩ => ⟨S_, .i32⟩
  | .hbm, ⟨22, _⟩ => ⟨S32768, .f32⟩
  | .hbm, ⟨23, _⟩ => ⟨S32768, .i32⟩
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== Proof.Argmin.lean ====
/- Smallest value, first index. The kernel and the reference both search a list of 1024 scores for
   the smallest one and, among equal ones, for the lowest index, but they visit the scores in
   different orders. Nothing here mentions either program: `Best` says what a search has found so
   far, `Led` says it for a search along one row of groups, and each lemma is one step of a search. -/
module

public import Idealize.ShloMosaic.Lib.Pointwise

@[expose] public section

noncomputable section

namespace Cert.Argmin

open Idealize.ShloMosaic

/-- Among the indices of `A`, the value `v` with the word `w` is the smallest score `f k`, found at
    the lowest index that has it. -/
def Best (f : ℕ → EReal) (A : ℕ → Prop) (v : EReal) (w : BitVec 32) : Prop :=
  ∃ k, A k ∧ k < 1024 ∧ w = BitVec.ofNat 32 k ∧ v = f k ∧
    ∀ j, A j → f k < f j ∨ (f k = f j ∧ k ≤ j)

/-- After `g` groups: `v` is the smallest of `f 0 … f (g-1)` and `w` the first group that has it. -/
def Led (f : ℕ → EReal) (g : ℕ) (v : EReal) (w : BitVec 32) : Prop :=
  ∃ h, h < g ∧ w = BitVec.ofNat 32 h ∧ v = f h ∧ (∀ k, k < g → f h ≤ f k) ∧ ∀ k, k < h → f h < f k

/-- Words of indices below 1024 are ordered, as signed words, as the indices are. -/
theorem slt_ofNat {a b : ℕ} (ha : a < 1024) (hb : b < 1024) :
    (BitVec.ofNat 32 a).slt (BitVec.ofNat 32 b) = decide (a < b) := by
  have h1 : (BitVec.ofNat 32 a).toInt = a := by
    rw [BitVec.toInt_eq_toNat_of_lt] <;> simp only [BitVec.toNat_ofNat] <;> omega
  have h2 : (BitVec.ofNat 32 b).toInt = b := by
    rw [BitVec.toInt_eq_toNat_of_lt] <;> simp only [BitVec.toNat_ofNat] <;> omega
  rw [BitVec.slt, h1, h2]
  simp

/-- A search over one group has found that group. -/
theorem Led.start (f : ℕ → EReal) : Led f 1 (f 0) 0#32 :=
  ⟨0, by omega, rfl, rfl, fun k hk => by obtain rfl : k = 0 := by omega
                                         exact le_rfl, fun k hk => by omega⟩

/-- One more group: keep the minimum, and move to the new group exactly when it is strictly smaller. -/
theorem Led.step {f : ℕ → EReal} {g : ℕ} {v : EReal} {w : BitVec 32} (H : Led f g v w) :
    Led f (g + 1) (min v (f g)) (Scalar.select (Ideal.cmp .olt (f g) v) (BitVec.ofNat 32 g) w) := by
  obtain ⟨h, hg, rfl, rfl, hle, hlt⟩ := H
  by_cases hc : f g < f h
  · refine ⟨g, by omega, ?_, min_eq_right hc.le, fun k hk => ?_, fun k hk => ?_⟩
    · simp [Scalar.select, Ideal.cmp, hc]
    · rcases Nat.lt_succ_iff_lt_or_eq.mp hk with hk | rfl
      · exact hc.le.trans (hle k hk)
      · exact le_rfl
    · exact hc.trans_le (hle k hk)
  · have hc' := not_lt.mp hc
    refine ⟨h, by omega, ?_, min_eq_left hc', fun k hk => ?_, hlt⟩
    · simp [Scalar.select, Ideal.cmp, hc]
    · rcases Nat.lt_succ_iff_lt_or_eq.mp hk with hk | rfl
      · exact hle k hk
      · exact hc'

/-- A search over the 128 groups of residue `p` modulo 8 has found the best index of that residue. -/
theorem Led.best {s : ℕ → EReal} {p : ℕ} (hp : p < 8) {v : EReal} {w : BitVec 32}
    (H : Led (fun h => s (8 * h + p)) 128 v w) :
    Best s (fun k => k < 1024 ∧ k % 8 = p) v (w * 8#32 + BitVec.ofNat 32 p) := by
  obtain ⟨h, hg, rfl, rfl, hle, hlt⟩ := H
  refine ⟨8 * h + p, ⟨by omega, by omega⟩, by omega, ?_, rfl, fun j hj => ?_⟩
  · apply BitVec.eq_of_toNat_eq
    simp only [BitVec.toNat_add, BitVec.toNat_mul, BitVec.toNat_ofNat]
    omega
  · obtain ⟨q, rfl⟩ : ∃ q, j = 8 * q + p := ⟨j / 8, by omega⟩
    by_cases hq : q < h
    · exact Or.inl (hlt q hq)
    · rcases (hle q (by omega)).lt_or_eq with hh | hh
      · exact Or.inl hh
      · exact Or.inr ⟨hh, by omega⟩

/-- The choice a search makes between two candidates: 1 when the second one wins. -/
def wins (va : EReal) (wa : BitVec 32) (vb : EReal) (wb : BitVec 32) : BitVec 1 :=
  Ideal.cmp .olt vb va ||| (Ideal.cmp .oeq vb va &&& IntOp.cmpi .slt wb wa)

/-- The better of two candidates is best over both of their sets. -/
theorem Best.merge {f : ℕ → EReal} {A B : ℕ → Prop} {va vb : EReal} {wa wb : BitVec 32}
    (HA : Best f A va wa) (HB : Best f B vb wb) :
    Best f (fun k => A k ∨ B k) (Scalar.select (wins va wa vb wb) vb va)
      (Scalar.select (wins va wa vb wb) wb wa) := by
  obtain ⟨a, hAa, ha, rfl, rfl, hA⟩ := HA
  obtain ⟨b, hBb, hb, rfl, rfl, hB⟩ := HB
  have hs := slt_ofNat hb ha
  by_cases hc : f b < f a ∨ (f b = f a ∧ b < a)
  · have hw : wins (f a) (BitVec.ofNat 32 a) (f b) (BitVec.ofNat 32 b) = 1 := by
      rcases hc with h | ⟨h, h'⟩
      · simp [wins, Ideal.cmp, h, h.ne]
      · simp [wins, Ideal.cmp, IntOp.cmpi, hs, h, h']
    rw [hw]
    refine ⟨b, Or.inr hBb, hb, rfl, rfl, fun j hj => ?_⟩
    rcases hj with hj | hj
    · rcases hc with h | ⟨h, h'⟩ <;> rcases hA j hj with k | ⟨k, k'⟩
      · exact Or.inl (h.trans k)
      · exact Or.inl (k ▸ h)
      · exact Or.inl (h ▸ k)
      · exact Or.inr ⟨h.trans k, by omega⟩
    · exact hB j hj
  · have hc1 : ¬ f b < f a := fun h => hc (Or.inl h)
    have hc2 : f b = f a → ¬ b < a := fun h h' => hc (Or.inr ⟨h, h'⟩)
    have hw : wins (f a) (BitVec.ofNat 32 a) (f b) (BitVec.ofNat 32 b) = 0 := by
      by_cases h : f b = f a
      · simp [wins, Ideal.cmp, IntOp.cmpi, hs, h, hc2 h]
      · simp [wins, Ideal.cmp, hc1, h]
    rw [hw]
    refine ⟨a, Or.inl hAa, ha, rfl, rfl, fun j hj => ?_⟩
    rcases hj with hj | hj
    · exact hA j hj
    · rcases (not_lt.mp hc1).lt_or_eq with h | h <;> rcases hB j hj with k | ⟨k, k'⟩
      · exact Or.inl (h.trans k)
      · exact Or.inl (k ▸ h)
      · exact Or.inl (h ▸ k)
      · exact Or.inr ⟨h.trans k, by have := hc2 h.symm; omega⟩

/-- `Best` depends only on which indices the set has. -/
theorem Best.congr {f : ℕ → EReal} {A B : ℕ → Prop} {v : EReal} {w : BitVec 32}
    (H : Best f A v w) (h : ∀ k, A k ↔ B k) : Best f B v w := by
  obtain rfl : A = B := funext fun k => propext (h k)
  exact H

/-- One candidate alone is best over its own index. -/
theorem Best.single (f : ℕ → EReal) {k : ℕ} (hk : k < 1024) :
    Best f (fun j => j = k) (f k) (BitVec.ofNat 32 k) :=
  ⟨k, rfl, hk, rfl, rfl, fun j hj => by subst hj; exact Or.inr ⟨rfl, le_rfl⟩⟩

/-- Two searches of the same set, of scores that compare alike, end at the same index. -/
theorem Best.word_unique {f f' : ℕ → EReal} {A : ℕ → Prop} {v v' : EReal} {w w' : BitVec 32}
    (hf : ∀ j k, A j → A k → (f j < f k ↔ f' j < f' k))
    (H : Best f A v w) (H' : Best f' A v' w') : w = w' := by
  obtain ⟨a, hAa, ha, rfl, rfl, hA⟩ := H
  obtain ⟨b, hAb, hb, rfl, rfl, hB⟩ := H'
  suffices a = b by rw [this]
  have h1 := hA b hAb
  have h2 := hB a hAa
  have e1 := hf a b hAa hAb
  have e2 := hf b a hAb hAa
  rcases h1 with h1 | ⟨h1, h1'⟩
  · rcases h2 with h2 | ⟨h2, h2'⟩
    · exact absurd (e2.mpr h2) h1.asymm.elim
    · exact absurd (e1.mp h1) (h2 ▸ lt_irrefl _)
  · rcases h2 with h2 | ⟨h2, h2'⟩
    · exact absurd (e2.mpr h2) (h1 ▸ lt_irrefl _)
    · omega

end Cert.Argmin

end
-- ==== Proof.Chain.lean ====
/- The kernel's running search, one step per group of 8 rows. The printed body spells out 127 steps,
   cut into 14 parts; here one step is stated once, `n` steps by recursion, and each part is shown to
   be the next few steps. No arithmetic happens here: each theorem says that two texts are the same. -/
module

public import proofs.«01_k».proof.Proof.Gen.KernelIdeal.Skeleton

@[expose] public section

set_option maxRecDepth 16384

noncomputable section

namespace Cert.KernelIdeal.Chain

open Idealize.ShloMosaic Idealize.SL.Sem
open Cert.KernelIdeal Cert.KernelIdeal.Gen

variable {F : FTy → Type} [FloatOps F]

/-- Eight rows from row `8 * q` lie inside a tile of 256 rows. -/
theorem slices_group {q : ℕ} (hq : q < 32) : S256x4096.Slices ![8 * q, 0] S8x4096 :=
  ⟨rfl, fun a => by
    match a with
    | 0 => show 8 * q + 8 ≤ 256; omega
    | 1 => show 0 + 4096 ≤ 4096; omega⟩

/-- Group `q` of a tile: its rows `8 q … 8 q + 7`. -/
def group (s : FVec F S256x4096 .f32) (q : ℕ) (hq : q < 32) : FVec F S8x4096 .f32 :=
  extractStridedSlice S8x4096 ![8 * q, 0] s (slices_group hq)

/-- The running minimum after the `n` groups `q, …, q + n - 1` of tile `s`, from `v`. -/
def chainV (s : FVec F S256x4096 .f32) (q : ℕ) : (n : ℕ) → q + n ≤ 32 → FVec F S8x4096 .f32 → FVec F S8x4096 .f32
  | 0, _, v => v
  | n + 1, h, v => minimumf (chainV s q n (by omega) v) (group s (q + n) (by omega))

/-- The running group number after the `n` groups `q, …, q + n - 1` of tile `s` (tile number `t`),
    from the minimum `v` and the number `w`. -/
def chainW (s : FVec F S256x4096 .f32) (t q : ℕ) : (n : ℕ) → q + n ≤ 32 → FVec F S8x4096 .f32 → IVec S8x4096 32 → IVec S8x4096 32
  | 0, _, _, w => w
  | n + 1, h, v, w =>
    select (cmpf .olt (group s (q + n) (by omega)) (chainV s q n (by omega) v))
      (broadcast S8x4096 (BitVec.ofNat 32 (32 * t + (q + n)))) (chainW s t q n (by omega) v w)

variable (v0 : Vec F S4096x64 .f32) (v1 : Vec F S1024x64 .f32)
variable (c2 : FVec F S1024x1 .f32) (cm : FVec F S1024x64 .f32) (xt : FVec F S64x4096 .f32)
variable (s : FVec F S256x4096 .f32) (v : FVec F S8x4096 .f32) (w : IVec S8x4096 32)

/-- Part 1, minimum: groups 1 to 6 of the first tile, from its group 0. -/
theorem part1_v : k0_pay18 v0 v1 = chainV (k0_pay5 v0 v1) 1 6 (by omega) (group (k0_pay5 v0 v1) 0 (by omega)) := rfl

/-- Part 1, group number: from the number 0. -/
theorem part1_w : k0_pay19 v0 v1 = chainW (k0_pay5 v0 v1) 0 1 6 (by omega) (group (k0_pay5 v0 v1) 0 (by omega)) (broadcast S8x4096 0#32) := rfl

/-- Part 2, minimum: groups 7 to 16 of the first tile. -/
theorem part2_v : k0_pay39 s v = chainV s 7 10 (by omega) v := rfl
/-- Part 2, group number. -/
theorem part2_w : k0_pay40 s v w = chainW s 0 7 10 (by omega) v w := rfl

/-- Part 3, minimum: groups 17 to 26 of the first tile. -/
theorem part3_v : k0_pay60 s v = chainV s 17 10 (by omega) v := rfl
/-- Part 3, group number. -/
theorem part3_w : k0_pay61 s v w = chainW s 0 17 10 (by omega) v w := rfl

/-- Part 4, minimum: groups 27 to 31 of the first tile, then the first 4 of the second. -/
theorem part4_v : k0_pay80 c2 cm xt s v =
    chainV (k0_pay72 c2 cm xt) 0 4 (by omega) (chainV s 27 5 (by omega) v) := rfl
/-- Part 4, group number. -/
theorem part4_w : k0_pay81 c2 cm xt s v w =
    chainW (k0_pay72 c2 cm xt) 1 0 4 (by omega) (chainV s 27 5 (by omega) v) (chainW s 0 27 5 (by omega) v w) := rfl

/-- Part 5, minimum: groups 4 to 13 of the second tile. -/
theorem part5_v : k0_pay101 s v = chainV s 4 10 (by omega) v := rfl
/-- Part 5, group number. -/
theorem part5_w : k0_pay102 s v w = chainW s 1 4 10 (by omega) v w := rfl

/-- Part 6, minimum: groups 14 to 23 of the second tile. -/
theorem part6_v : k0_pay122 s v = chainV s 14 10 (by omega) v := rfl
/-- Part 6, group number. -/
theorem part6_w : k0_pay123 s v w = chainW s 1 14 10 (by omega) v w := rfl

/-- Part 7, minimum: groups 24 to 31 of the second tile, then the first 1 of the third. -/
theorem part7_v : k0_pay142 c2 cm xt s v =
    chainV (k0_pay140 c2 cm xt) 0 1 (by omega) (chainV s 24 8 (by omega) v) := rfl
/-- Part 7, group number. -/
theorem part7_w : k0_pay143 c2 cm xt s v w =
    chainW (k0_pay140 c2 cm xt) 2 0 1 (by omega) (chainV s 24 8 (by omega) v) (chainW s 1 24 8 (by omega) v w) := rfl

/-- Part 8, minimum: groups 1 to 10 of the third tile. -/
theorem part8_v : k0_pay163 s v = chainV s 1 10 (by omega) v := rfl
/-- Part 8, group number. -/
theorem part8_w : k0_pay164 s v w = chainW s 2 1 10 (by omega) v w := rfl

/-- Part 9, minimum: groups 11 to 20 of the third tile. -/
theorem part9_v : k0_pay184 s v = chainV s 11 10 (by omega) v := rfl
/-- Part 9, group number. -/
theorem part9_w : k0_pay185 s v w = chainW s 2 11 10 (by omega) v w := rfl

/-- Part 10, minimum: groups 21 to 30 of the third tile. -/
theorem part10_v : k0_pay205 s v = chainV s 21 10 (by omega) v := rfl
/-- Part 10, group number. -/
theorem part10_w : k0_pay206 s v w = chainW s 2 21 10 (by omega) v w := rfl

/-- Part 11, minimum: groups 31 to 31 of the third tile, then the first 8 of the fourth. -/
theorem part11_v : k0_pay225 c2 cm xt s v =
    chainV (k0_pay209 c2 cm xt) 0 8 (by omega) (chainV s 31 1 (by omega) v) := rfl
/-- Part 11, group number. -/
theorem part11_w : k0_pay226 c2 cm xt s v w =
    chainW (k0_pay209 c2 cm xt) 3 0 8 (by omega) (chainV s 31 1 (by omega) v) (chainW s 2 31 1 (by omega) v w) := rfl

/-- Part 12, minimum: groups 8 to 17 of the fourth tile. -/
theorem part12_v : k0_pay246 s v = chainV s 8 10 (by omega) v := rfl
/-- Part 12, group number. -/
theorem part12_w : k0_pay247 s v w = chainW s 3 8 10 (by omega) v w := rfl

/-- Part 13, minimum: groups 18 to 27 of the fourth tile. -/
theorem part13_v : k0_pay267 s v = chainV s 18 10 (by omega) v := rfl
/-- Part 13, group number. -/
theorem part13_w : k0_pay268 s v w = chainW s 3 18 10 (by omega) v w := rfl

/-- Part 14, minimum: groups 28 to 31 of the fourth tile. -/
theorem part14_v : k0_pay276 s v = chainV s 28 4 (by omega) v := rfl
/-- Part 14, index: the group number times 8, plus the row within the group. -/
theorem part14_w : k0_pay277 s v w =
    addi (muli (chainW s 3 28 4 (by omega) v w) (broadcast S8x4096 8#32)) (iota .tc S8x4096 32 [0] Gen.iota_S8x4096_d0_w32) := rfl

end Cert.KernelIdeal.Chain

end
-- ==== Proof.Block.lean ====
/- What one block computes. At a grid point the kernel holds 4096 rows and all 1024 centers; its result
   for a row is the number of the first center whose score `-2 x·c + ‖c‖²` is smallest. The scores come
   in groups of eight centers, kept as a running minimum with its group number, and the eight running
   minima are merged in pairs. -/
module

public import proofs.«01_k».proof.Proof.Argmin
public import proofs.«01_k».proof.Proof.Chain
public import proofs.«01_k».proof.Proof.Gen.KernelIdeal.Frame
public import Idealize.ShloMosaic.Lib.Pointwise
public import Idealize.ShloMosaic.Lib.Pipeline.ValueKit

@[expose] public section

set_option maxRecDepth 16384

noncomputable section

namespace Cert.KernelIdeal.Block

open Idealize.ShloMosaic Idealize.ShloMosaic.TcCoe Idealize.SL.Sem
open Cert.KernelIdeal Cert.KernelIdeal.Gen Cert.KernelIdeal.Chain Cert.Argmin

/-- The kernel's score of center `k` for row `n` of a block: `Σ_d (-2 c[k,d]) x[n,d] + Σ_d c[k,d]²`. -/
def score (x : FVec Ideal S4096x64 .f32) (c : FVec Ideal S1024x64 .f32) (n : Fin 4096) (k : ℕ) : EReal :=
  if h : k < 1024 then
    (∑ d : Fin 64, Ideal.ofBits .f32 0xC0000000#32 * c (ix2 ⟨k, h⟩ d) * x (ix2 n d))
      + ∑ d : Fin 64, c (ix2 ⟨k, h⟩ d) * c (ix2 ⟨k, h⟩ d)
  else 0

variable (x : FVec Ideal S4096x64 .f32) (c : FVec Ideal S1024x64 .f32)

/-- The first tile of scores: rows 0 to 255. -/
theorem tile0 (r : Fin 256) (n : Fin 4096) :
    k0_pay5 (F := Ideal) x c (ix2 r n) = score x c n (256 * 0 + r) := by
  rw [score, dif_pos (by omega)]
  pointwise [k0_pay5, k0_pay2, k0_pay3, k0_pay4]
/-- The second tile of scores: rows 256 to 511. -/
theorem tile1 (r : Fin 256) (n : Fin 4096) :
    k0_pay72 (F := Ideal) (k0_pay2 c) (k0_pay3 c) (k0_pay4 x) (ix2 r n) = score x c n (256 * 1 + r) := by
  rw [score, dif_pos (by omega)]
  pointwise [k0_pay72, k0_pay2, k0_pay3, k0_pay4]
/-- The third tile of scores: rows 512 to 767. -/
theorem tile2 (r : Fin 256) (n : Fin 4096) :
    k0_pay140 (F := Ideal) (k0_pay2 c) (k0_pay3 c) (k0_pay4 x) (ix2 r n) = score x c n (256 * 2 + r) := by
  rw [score, dif_pos (by omega)]
  pointwise [k0_pay140, k0_pay2, k0_pay3, k0_pay4]
/-- The fourth tile of scores: rows 768 to 1023. -/
theorem tile3 (r : Fin 256) (n : Fin 4096) :
    k0_pay209 (F := Ideal) (k0_pay2 c) (k0_pay3 c) (k0_pay4 x) (ix2 r n) = score x c n (256 * 3 + r) := by
  rw [score, dif_pos (by omega)]
  pointwise [k0_pay209, k0_pay2, k0_pay3, k0_pay4]

/-- One element of a group of 8 rows. -/
theorem group_at (s : FVec Ideal S256x4096 .f32) {q : ℕ} (hq : q < 32) (r : Fin 8) (n : Fin 4096) :
    group s q hq (ix2 r n) = s (ix2 ⟨8 * q + r, by omega⟩ n) := by
  pointwise [group]

section Search

variable (f : Fin 4096 → ℕ → EReal)

/-- The running search, element by element: after `g` groups, each of the 8 residues modulo 8 holds
    the smallest of its first `g` scores and the first group that has it. -/
def Running (g : ℕ) (v : FVec Ideal S8x4096 .f32) (w : IVec S8x4096 32) : Prop :=
  ∀ (r : Fin 8) (n : Fin 4096), Led (fun h => f n (8 * h + r)) g (v (ix2 r n)) (w (ix2 r n))

/-- Tile `t` holds the scores of rows `256 t … 256 t + 255`. -/
def Tile (t : ℕ) (s : FVec Ideal S256x4096 .f32) : Prop :=
  ∀ (r : Fin 256) (n : Fin 4096), s (ix2 r n) = f n (256 * t + r)

variable {f}

/-- Before any step the search has seen group 0 of the first tile. -/
theorem running_start {s : FVec Ideal S256x4096 .f32} (hs : Tile f 0 s) :
    Running f 1 (group s 0 (by omega)) (broadcast S8x4096 0#32) := by
  intro r n
  rw [group_at, hs]
  have e : f n (256 * 0 + (8 * 0 + r)) = (fun h => f n (8 * h + r)) 0 := congrArg (f n) (by simp)
  show Led _ 1 (f n (256 * 0 + (8 * 0 + r))) 0#32
  rw [e]
  exact Led.start _

/-- `n` steps along tile `t` take the search `n` groups further. -/
theorem running_chain {s : FVec Ideal S256x4096 .f32} {t : ℕ} (hs : Tile f t s) (q : ℕ)
    {v : FVec Ideal S8x4096 .f32} {w : IVec S8x4096 32} (H : Running f (32 * t + q) v w) :
    ∀ (k : ℕ) (h : q + k ≤ 32), Running f (32 * t + (q + k)) (chainV s q k h v) (chainW s t q k h v w)
  | 0, _ => H
  | k + 1, h => by
    intro r n
    have ih := (running_chain hs q H k (by omega) r n).step
    have e : group s (q + k) (by omega) (ix2 r n) = f n (8 * (32 * t + (q + k)) + r) := by
      rw [group_at, hs]
      exact congrArg (f n) (by show 256 * t + (8 * (q + k) + r) = _; omega)
    show Led _ _ (min (chainV s q k _ v (ix2 r n)) (group s (q + k) _ (ix2 r n)))
      (Scalar.select (Ideal.cmp .olt (group s (q + k) _ (ix2 r n)) (chainV s q k _ v (ix2 r n))) _ _)
    rw [e]
    exact ih

end Search

section Tree

variable {f : ℕ → EReal} {n : Fin 4096}
variable {s : FVec Ideal S256x4096 .f32} {v : FVec Ideal S8x4096 .f32} {w : IVec S8x4096 32}

/-- First halving: 8 candidates, one per residue modulo 8, become 4. -/
theorem tree4 (H : ∀ r : Fin 8, Best f (fun k => k < 1024 ∧ k % 8 = r) (k0_pay276 s v (ix2 r n)) (k0_pay277 s v w (ix2 r n)))
    (r : Fin 4) : Best f (fun k => k < 1024 ∧ k % 4 = r) (k0_pay283 s v w (ix2 r n)) (k0_pay284 s v w (ix2 r n)) := by
  have h := ((H ⟨r, by omega⟩).merge (H ⟨4 + r, by omega⟩)).congr
    (B := fun k => k < 1024 ∧ k % 4 = r) (fun k => by simp only; omega)
  pointwise [k0_pay283, k0_pay284, k0_pay282, k0_pay281, k0_pay280, k0_pay279, k0_pay278]
  exact h

/-- Second halving: 4 candidates become 2. -/
theorem tree2 (H : ∀ r : Fin 4, Best f (fun k => k < 1024 ∧ k % 4 = r) (k0_pay283 s v w (ix2 r n)) (k0_pay284 s v w (ix2 r n)))
    (r : Fin 2) : Best f (fun k => k < 1024 ∧ k % 2 = r)
      (Scalar.select (k0_pay289 s v w (ix2 r n)) (k0_pay286 s v w (ix2 r n)) (k0_pay285 s v w (ix2 r n)))
      (k0_pay290 s v w (ix2 r n)) := by
  have h := ((H ⟨r, by omega⟩).merge (H ⟨2 + r, by omega⟩)).congr
    (B := fun k => k < 1024 ∧ k % 2 = r) (fun k => by simp only; omega)
  pointwise [k0_pay290, k0_pay289, k0_pay288, k0_pay287, k0_pay286, k0_pay285]
  exact h

/-- Last halving: the word stored for row `n` is the best of all 1024. -/
theorem tree1 (H : ∀ r : Fin 2, Best f (fun k => k < 1024 ∧ k % 2 = r)
      (Scalar.select (k0_pay289 s v w (ix2 r n)) (k0_pay286 s v w (ix2 r n)) (k0_pay285 s v w (ix2 r n)))
      (k0_pay290 s v w (ix2 r n))) :
    ∃ z, Best f (fun k => k < 1024) z
      (k0_pay1 (k0_pay291 s v w) (k0_pay292 s v w) (k0_pay293 s v w) (ix1 n)) := by
  have h := ((H 0).merge (H 1)).congr
    (B := fun k => k < 1024) (fun k => by simp only [Fin.val_zero, Fin.val_one]; omega)
  refine ⟨_, (congrArg (Best f _ _) ?_).mp h⟩
  pointwise [k0_pay1, k0_pay291, k0_pay292, k0_pay293]
  rfl

end Tree

section Whole

variable (x : Vec Ideal S4096x64 .f32) (c : Vec Ideal S1024x64 .f32)

/-- The squared norms are taken of the whole block of centers. -/
theorem norms_eq : k0_pay294 (F := Ideal) x c = k0_pay2 c := by unfold k0_pay294; frame_out
/-- The scaled centers are the whole block of centers, scaled. -/
theorem scaled_eq : k0_pay295 (F := Ideal) x c = k0_pay3 c := by unfold k0_pay295; frame_out
/-- The transposed rows are the whole block of rows, transposed. -/
theorem rows_eq : k0_pay296 (F := Ideal) x c = k0_pay4 x := by unfold k0_pay296; frame_out
/-- The first tile, of the whole blocks. -/
theorem first_eq : k0_pay297 (F := Ideal) x c = k0_pay5 x c := by unfold k0_pay297; frame_out
/-- Part 1's minimum, of the whole blocks. -/
theorem start_v_eq : k0_pay298 (F := Ideal) x c = k0_pay18 x c := by unfold k0_pay298; frame_out

/-- The first stored tile holds the scores of rows 0 to 255. -/
theorem tile_first : Tile (score x c) 0 (k0_pay297 (F := Ideal) x c) := by
  rw [first_eq]; exact tile0 x c
/-- The second stored tile holds the scores of rows 256 to 511. -/
theorem tile_second : Tile (score x c) 1 (k0_pay301 (F := Ideal) x c) := by
  unfold k0_pay301; rw [norms_eq, scaled_eq, rows_eq]; exact tile1 x c
/-- The third stored tile holds the scores of rows 512 to 767. -/
theorem tile_third : Tile (score x c) 2 (k0_pay305 (F := Ideal) x c) := by
  unfold k0_pay305; rw [norms_eq, scaled_eq, rows_eq]; exact tile2 x c
/-- The fourth stored tile holds the scores of rows 768 to 1023. -/
theorem tile_fourth : Tile (score x c) 3 (k0_pay310 (F := Ideal) x c) := by
  unfold k0_pay310; rw [norms_eq, scaled_eq, rows_eq]; exact tile3 x c

/-- Part 1's group number. -/
def num1 : IVec S8x4096 32 := k0_pay19 (F := Ideal) x c
/-- Part 3's group number. -/
def num3 : IVec S8x4096 32 := k0_pay61 (k0_pay297 x c) (k0_pay299 x c) (k0_pay40 (k0_pay297 x c) (k0_pay298 x c) (num1 x c))
/-- Part 6's group number. -/
def num6 : IVec S8x4096 32 :=
  k0_pay123 (k0_pay301 x c) (k0_pay303 x c) (k0_pay102 (k0_pay301 x c) (k0_pay302 x c)
    (k0_pay81 (k0_pay294 x c) (k0_pay295 x c) (k0_pay296 x c) (k0_pay297 x c) (k0_pay300 x c) (num3 x c)))
/-- Part 10's group number. -/
def num10 : IVec S8x4096 32 :=
  k0_pay206 (k0_pay305 x c) (k0_pay308 x c) (k0_pay185 (k0_pay305 x c) (k0_pay307 x c)
    (k0_pay164 (k0_pay305 x c) (k0_pay306 x c)
      (k0_pay143 (k0_pay294 x c) (k0_pay295 x c) (k0_pay296 x c) (k0_pay301 x c) (k0_pay304 x c) (num6 x c))))

/-- Parts 1 to 3: 27 groups, all of the first tile. -/
theorem running3 : Running (score x c) 27 (k0_pay300 (F := Ideal) x c) (num3 x c) := by
  have t0 := tile_first x c
  have h1 : Running (score x c) 7 (k0_pay298 (F := Ideal) x c) (num1 x c) := by
    rw [start_v_eq, part1_v, num1, part1_w]
    exact running_chain (tile0 x c) 1 (running_start (tile0 x c)) 6 (by omega)
  have h2 := running_chain t0 7 h1 10 (by omega)
  rw [← part2_v, ← part2_w] at h2
  have h3 := running_chain t0 17 h2 10 (by omega)
  rw [← part3_v, ← part3_w] at h3
  exact h3

/-- Parts 4 to 6: 56 groups, the last 24 of the second tile. -/
theorem running6 : Running (score x c) 56 (k0_pay304 (F := Ideal) x c) (num6 x c) := by
  have t1 := tile_second x c
  have h4 := running_chain t1 0 (running_chain (tile_first x c) 27 (running3 x c) 5 (by omega)) 4 (by omega)
  rw [k0_pay301, ← part4_v, ← part4_w] at h4
  have h5 := running_chain t1 4 h4 10 (by omega)
  rw [← part5_v, ← part5_w] at h5
  have h6 := running_chain t1 14 h5 10 (by omega)
  rw [← part6_v, ← part6_w] at h6
  exact h6

/-- Parts 7 to 10: 95 groups, the last 31 of the third tile. -/
theorem running10 : Running (score x c) 95 (k0_pay309 (F := Ideal) x c) (num10 x c) := by
  have t2 := tile_third x c
  have h7 := running_chain t2 0 (running_chain (tile_second x c) 24 (running6 x c) 8 (by omega)) 1 (by omega)
  rw [k0_pay305, ← part7_v, ← part7_w] at h7
  have h8 := running_chain t2 1 h7 10 (by omega)
  rw [← part8_v, ← part8_w] at h8
  have h9 := running_chain t2 11 h8 10 (by omega)
  rw [← part9_v, ← part9_w] at h9
  have h10 := running_chain t2 21 h9 10 (by omega)
  rw [← part10_v, ← part10_w] at h10
  exact h10

/-- Parts 11 to 13: 124 groups, the last 28 of the fourth tile. -/
theorem running13 : Running (score x c) 124 (k0_pay313 (F := Ideal) x c) (k0_pay314 (F := Ideal) x c) := by
  have t3 := tile_fourth x c
  have h11 := running_chain t3 0 (running_chain (tile_third x c) 31 (running10 x c) 1 (by omega)) 8 (by omega)
  rw [k0_pay310, ← part11_v, ← part11_w] at h11
  have h12 := running_chain t3 8 h11 10 (by omega)
  rw [← part12_v, ← part12_w] at h12
  have h13 := running_chain t3 18 h12 10 (by omega)
  rw [← part13_v, ← part13_w] at h13
  have e : k0_pay19 (F := Ideal) (View.ld x r0_0) (View.ld c r0_1) = num1 x c := by
    unfold num1; frame_out
  unfold k0_pay314
  rw [e]
  exact h13

/-- What one block stores: for each of its 4096 rows, the word of the first best-scoring center. -/
theorem block_best (n : Fin 4096) :
    ∃ z, Best (score x c n) (fun k => k < 1024) z
      (k0_pay1 (k0_pay291 (k0_pay310 x c) (k0_pay313 x c) (k0_pay314 x c))
        (k0_pay292 (k0_pay310 x c) (k0_pay313 x c) (k0_pay314 x c))
        (k0_pay293 (F := Ideal) (k0_pay310 x c) (k0_pay313 x c) (k0_pay314 x c)) (ix1 n)) := by
  have h14 := running_chain (tile_fourth x c) 28 (running13 x c) 4 (by omega)
  refine tree1 (tree2 (tree4 fun r => ?_))
  have h := (h14 r n).best r.isLt
  rw [part14_v, part14_w]
  have e : ∀ w : IVec S8x4096 32,
      addi (muli w (broadcast S8x4096 8#32)) (iota .tc S8x4096 32 [0] Gen.iota_S8x4096_d0_w32) (ix2 r n)
        = w (ix2 r n) * 8#32 + BitVec.ofNat 32 r := by
    intro w
    pointwise
    rfl
  rw [e]
  exact h

end Whole

end Cert.KernelIdeal.Block

end
-- ==== Proof.Reference.lean ====
/- What the reference computes. `squares` is the array of squared distances it forms, `nearest` its
   result; at an entry, `squares` is `‖x‖² - 2 x·c + ‖c‖²` written out, and `nearest` is the first
   index of the smallest one. -/
module

public import proofs.«01_k».proof.Proof.Argmin
public import proofs.«01_k».proof.Proof.Gen.ReferenceIdeal
public import Idealize.ShloMosaic.Lib.Pointwise

@[expose] public section

set_option maxRecDepth 16384

noncomputable section

namespace Cert.ReferenceIdeal.Nearest

open Idealize.ShloMosaic Idealize.SL.Sem
open Cert.ReferenceIdeal Cert.ReferenceIdeal.Gen Cert.Argmin

/-- The squared distances, as the reference's operations. -/
def squares (x : FVec Ideal S32768x64 .f32) (c : FVec Ideal S1024x64 .f32) : FVec Ideal S32768x1024 .f32 :=
  addf
    (subf
      (broadcastInDim S32768x1024 ![0, 1] Gen.bcast_S32768x1_S32768x1024_0_1
        (broadcastInDim S32768x1 ![0] Gen.bcast_S32768_S32768x1_0
          (Host.reduceAdd (mulf x x) (constant S_ .f32 0x00000000#32) Gen.reducesTo_S32768x64_S32768_d1 Gen.h_S_)))
      (mulf
        (broadcastInDim S32768x1024 ![] Gen.bcast_S_S32768x1024 (constant S_ .f32 0x40000000#32))
        (Host.dotGeneral dot_S32768x64_S64x1024_S32768x1024_1_0_0_1_n_n none x
          (transpose S64x1024 [1, 0] c Gen.transposes_S1024x64_S64x1024_1_0))))
    (broadcastInDim S32768x1024 ![0, 1] Gen.bcast_S1x1024_S32768x1024_0_1
      (broadcastInDim S1x1024 ![1] Gen.bcast_S1024_S1x1024_1
        (Host.reduceAdd (mulf c c) (constant S_ .f32 0x00000000#32) Gen.reducesTo_S1024x64_S1024_d1 Gen.h_S_)))

/-- The reference's result: the index part of its search along each row of distances. -/
def nearest (x : FVec Ideal S32768x64 .f32) (c : FVec Ideal S1024x64 .f32) : IVec S32768 32 := fun j =>
  (Host.argReduce reducer_argmin_f32_i32 (squares x c) (iotaInDim S32768x1024 32 1)
    (constant S_ .f32 0x7F800000#32) (constantI S_ 32 0#32) Gen.reducesTo_S32768x1024_S32768_d1 Gen.h_S_ j).2

/-- One squared distance, written out. -/
theorem squares_at (x : FVec Ideal S32768x64 .f32) (c : FVec Ideal S1024x64 .f32) (i : Fin 32768) (k : Fin 1024) :
    squares x c (ix2 i k) =
      ((∑ d : Fin 64, x (ix2 i d) * x (ix2 i d))
        - Ideal.ofBits .f32 0x40000000#32 * ∑ d : Fin 64, x (ix2 i d) * c (ix2 k d))
        + ∑ d : Fin 64, c (ix2 k d) * c (ix2 k d) := by
  pointwise [squares]

section Fold

/-- One step of the reference's search, from a best candidate: the result is best over one index more. -/
theorem step_best {f : ℕ → EReal} {A : ℕ → Prop} {v : EReal} {w : BitVec 32} (H : Best f A v w) {k : ℕ} (hk : k < 1024) :
    Best f (fun j => A j ∨ j = k) (reducer_argmin_f32_i32 (F := Ideal) (v, w) (f k, BitVec.ofNat 32 k)).1
      (reducer_argmin_f32_i32 (F := Ideal) (v, w) (f k, BitVec.ofNat 32 k)).2 := by
  have h := ((Best.single f hk).merge H).congr (B := fun j => A j ∨ j = k) (fun j => or_comm)
  have e1 : (reducer_argmin_f32_i32 (F := Ideal) (v, w) (f k, BitVec.ofNat 32 k)).1
      = Scalar.select (wins (f k) (BitVec.ofNat 32 k) v w) v (f k) := by
    show Scalar.select (IntOp.ori (Ideal.cmp .olt v (f k)) (Ideal.cmp .une v v)) v (f k) = _
    by_cases h1 : v < f k
    · simp [Scalar.select, IntOp.ori, wins, Ideal.cmp, h1, h1.ne]
    · by_cases h2 : v = f k
      · simp [Scalar.select, h2]
      · simp [Scalar.select, IntOp.ori, wins, Ideal.cmp, h1, h2]
  have e2 : (reducer_argmin_f32_i32 (F := Ideal) (v, w) (f k, BitVec.ofNat 32 k)).2
      = Scalar.select (wins (f k) (BitVec.ofNat 32 k) v w) w (BitVec.ofNat 32 k) := by
    show Scalar.select (IntOp.ori (IntOp.ori (Ideal.cmp .olt v (f k)) (Ideal.cmp .une v v))
      (IntOp.andi (Ideal.cmp .oeq v (f k)) (IntOp.cmpi .slt w (BitVec.ofNat 32 k)))) w _ = _
    simp [IntOp.ori, IntOp.andi, wins, Ideal.cmp]
  rw [e1, e2]
  exact h

/-- The first step, from +infinity: the first finite candidate is taken. -/
theorem step_first {v : EReal} (hv : v < ⊤) (w : BitVec 32) :
    reducer_argmin_f32_i32 (F := Ideal) (⊤, 0#32) (v, w) = (v, w) := by
  show (Scalar.select (IntOp.ori (Ideal.cmp .olt ⊤ v) (Ideal.cmp .une ⊤ ⊤)) ⊤ v,
    Scalar.select (IntOp.ori (IntOp.ori (Ideal.cmp .olt ⊤ v) (Ideal.cmp .une ⊤ ⊤))
      (IntOp.andi (Ideal.cmp .oeq ⊤ v) (IntOp.cmpi .slt 0#32 w))) 0#32 w) = _
  simp [Scalar.select, IntOp.ori, IntOp.andi, Ideal.cmp, hv.ne']

/-- The search along a list of candidates, from a best candidate, is best over the indices met too. -/
theorem fold_best {f : ℕ → EReal} : ∀ (L : List ℕ), (∀ k ∈ L, k < 1024) → ∀ {A : ℕ → Prop} {v : EReal} {w : BitVec 32},
    Best f A v w →
    ∃ v' w', (L.map fun k => (f k, BitVec.ofNat 32 k)).foldl (reducer_argmin_f32_i32 (F := Ideal)) (v, w) = (v', w')
      ∧ Best f (fun j => A j ∨ j ∈ L) v' w'
  | [], _, A, v, w, H => ⟨v, w, rfl, H.congr fun j => by simp⟩
  | k :: L, hL, A, v, w, H => by
    have h := fold_best L (fun j hj => hL j (List.mem_cons_of_mem _ hj)) (step_best H (hL k List.mem_cons_self))
    obtain ⟨v', w', e, h⟩ := h
    exact ⟨v', w', e, h.congr fun j => by simp [or_assoc]⟩

/-- The whole search along a list of finite candidates that is not empty, from +infinity. -/
theorem search_best {f : ℕ → EReal} (hf : ∀ k, k < 1024 → f k < ⊤) (L : List ℕ) (hL : ∀ k ∈ L, k < 1024) (hne : L ≠ []) :
    ∃ v' w', (L.map fun k => (f k, BitVec.ofNat 32 k)).foldl (reducer_argmin_f32_i32 (F := Ideal)) (⊤, 0#32) = (v', w')
      ∧ Best f (fun j => j ∈ L) v' w' := by
  obtain ⟨k, L, rfl⟩ := List.exists_cons_of_ne_nil hne
  have hk := hL k List.mem_cons_self
  obtain ⟨v', w', e, h⟩ := fold_best L (fun j hj => hL j (List.mem_cons_of_mem _ hj)) (Best.single f hk)
  refine ⟨v', w', ?_, h.congr fun j => by simp⟩
  rw [List.map_cons, List.foldl_cons, step_first (hf k hk)]
  exact e

end Fold

/-- The squared distances of row `i`, by center number. -/
def squaresOf (x : FVec Ideal S32768x64 .f32) (c : FVec Ideal S1024x64 .f32) (i : Fin 32768) (k : ℕ) : EReal :=
  if h : k < 1024 then squares x c (ix2 i ⟨k, h⟩) else 0

/-- Dropping the center axis of an entry leaves its row. -/
theorem drop_eq_iff (n : S32768x1024.Idx) (i : Fin 32768) :
    (Gen.reducesTo_S32768x1024_S32768_d1).drop n = ix1 i ↔ n 0 = i := by
  have h : ((Gen.reducesTo_S32768x1024_S32768_d1).drop n 0 : ℕ) = n 0 :=
    Shape.ReducesTo.drop_apply_val_of_eq _ n 0 0
  constructor
  · intro e
    rw [e] at h
    exact Fin.ext h.symm
  · intro e
    refine (eq_ix1 _).trans (congrArg ix1 (Fin.ext ?_))
    rw [← e]
    exact h

/-- The center numbers met along row `i`, in the order the reference meets them. -/
def met (i : Fin 32768) : List ℕ :=
  ((List.finRange S32768x1024.numel).filter fun n =>
    (Gen.reducesTo_S32768x1024_S32768_d1).drop (S32768x1024.rowMajor.symm n) = ix1 i).map
      fun n => (S32768x1024.rowMajor.symm n 1 : ℕ)

/-- Along a row exactly the center numbers below 1024 are met. -/
theorem mem_met (i : Fin 32768) (k : ℕ) : k ∈ met i ↔ k < 1024 := by
  simp only [met, List.mem_map, List.mem_filter, List.mem_finRange, true_and, decide_eq_true_eq]
  constructor
  · rintro ⟨n, _, rfl⟩
    exact (S32768x1024.rowMajor.symm n 1).isLt
  · intro h
    refine ⟨S32768x1024.rowMajor (ix2 i ⟨k, h⟩), ?_, ?_⟩
    · rw [Equiv.symm_apply_apply, drop_eq_iff]
      rfl
    · rw [Equiv.symm_apply_apply]
      rfl

/-- The (distance, number) pairs the reference searches along row `i`. -/
theorem fiber_eq (x : FVec Ideal S32768x64 .f32) (c : FVec Ideal S1024x64 .f32) (i : Fin 32768) :
    Host.argReduceFiber (squares x c) (iotaInDim S32768x1024 32 1) Gen.reducesTo_S32768x1024_S32768_d1 (ix1 i)
      = (met i).map fun k => (squaresOf x c i k, BitVec.ofNat 32 k) := by
  rw [met, List.map_map, Host.argReduceFiber]
  refine List.map_congr_left fun n hn => ?_
  have h0 := (drop_eq_iff _ _).1 (of_decide_eq_true (List.mem_filter.1 hn).2)
  have h1 : (S32768x1024.rowMajor.symm n 1 : ℕ) < 1024 := (S32768x1024.rowMajor.symm n 1).isLt
  refine Prod.ext ?_ ?_
  · show squares x c (S32768x1024.rowMajor.symm n) = squaresOf x c i (S32768x1024.rowMajor.symm n 1 : ℕ)
    rw [squaresOf, dif_pos h1, ← h0]
    exact congrArg (squares x c) (eq_ix2 _)
  · rfl

/-- A search at `Ideal`, as a fold over the pairs it meets. -/
theorem search_eq_foldl {φ : FTy} {s t u : Shape} {axes : List (Fin s.rank)} {β : Type}
    (f : Ideal φ × β → Ideal φ × β → Ideal φ × β) (x : FVec Ideal s φ) (y : s.Idx → β) (ix : u.Idx → Ideal φ)
    (iy : u.Idx → β) (h : s.ReducesTo axes t) (hu : 0 < u.numel) (j : t.Idx) :
    Host.argReduce f x y ix iy h hu j
      = (Host.argReduceFiber x y h j).foldl f (ix (Shape.Idx.first hu), iy (Shape.Idx.first hu)) := by
  rw [Ideal.argReduce_eq_reduce2, Host.reduce2_eq_foldl_fiber]

/-- `nearest`, opened. -/
theorem nearest_eq (x : FVec Ideal S32768x64 .f32) (c : FVec Ideal S1024x64 .f32) : nearest x c = fun j =>
    (Host.argReduce reducer_argmin_f32_i32 (squares x c) (iotaInDim S32768x1024 32 1)
      (constant S_ .f32 0x7F800000#32) (constantI S_ 32 0#32) Gen.reducesTo_S32768x1024_S32768_d1 Gen.h_S_ j).2 := by
  delta nearest; with_reducible rfl

/-- The reference's result for row `i`, where every squared distance is below +infinity: the word of
    the first nearest center. -/
theorem nearest_best (x : FVec Ideal S32768x64 .f32) (c : FVec Ideal S1024x64 .f32) (i : Fin 32768)
    (hf : ∀ k, k < 1024 → squaresOf x c i k < ⊤) (htop : Ideal.ofBits .f32 0x7F800000#32 = ⊤) :
    ∃ z, Best (squaresOf x c i) (fun k => k < 1024) z (nearest x c (ix1 i)) := by
  obtain ⟨v, w, e, h⟩ := search_best hf (met i) (fun k hk => (mem_met i k).1 hk)
    (List.ne_nil_of_mem ((mem_met i 0).2 (by omega)))
  refine ⟨v, ?_⟩
  have e' : nearest x c (ix1 i) = w := by
    have hs : ((constant S_ .f32 0x7F800000#32 : FVec Ideal S_ .f32) (Shape.Idx.first Gen.h_S_),
        (constantI S_ 32 0#32) (Shape.Idx.first Gen.h_S_)) = ((⊤ : EReal), 0#32) := Prod.ext htop rfl
    rw [nearest_eq]
    beta_reduce
    rw [search_eq_foldl, hs, fiber_eq, e]
  rw [e']
  exact h.congr fun k => mem_met i k

end Cert.ReferenceIdeal.Nearest

end
-- ==== Proof.Equation.lean ====
/- The equation. Between real numbers `Σ (-2 c x) + ‖c‖²`, the kernel's score, and
   `(‖x‖² - 2 x·c) + ‖c‖²`, the reference's squared distance, differ by `‖x‖²`, which is the same for
   every center: the two order the centers alike. -/
module

public import Mathlib.Data.EReal.Operations
public import Mathlib.Tactic.Linarith
public import Mathlib.Tactic.Ring
public import Mathlib.Algebra.BigOperators.Ring.Finset

@[expose] public section

noncomputable section

namespace Cert.Equation

/-- A finite sum of real numbers, taken among the extended reals. -/
theorem sum_coe {ι : Type} (s : Finset ι) (g : ι → ℝ) : ∑ d ∈ s, (g d : EReal) = ((∑ d ∈ s, g d : ℝ) : EReal) := by
  classical
  induction s using Finset.induction_on with
  | empty => simp
  | insert a s ha ih => rw [Finset.sum_insert ha, Finset.sum_insert ha, ih, EReal.coe_add]

/-- An array without infinities is an array of real numbers. -/
theorem real_of_finite {ι : Type} {g : ι → EReal} (h : ∀ d, g d ≠ ⊤ ∧ g d ≠ ⊥) : ∃ r : ι → ℝ, ∀ d, g d = (r d : EReal) :=
  ⟨fun d => (g d).toReal, fun d => (EReal.coe_toReal (h d).1 (h d).2).symm⟩

/-- The squared distance as the reference forms it. -/
def dist (X C : Fin 64 → EReal) : EReal :=
  ((∑ d, X d * X d) - ((2 : ℝ) : EReal) * ∑ d, X d * C d) + ∑ d, C d * C d

/-- The score as the kernel forms it. -/
def part (X C : Fin 64 → EReal) : EReal :=
  (∑ d, ((-2 : ℝ) : EReal) * C d * X d) + ∑ d, C d * C d

/-- The squared distance is the score and the row's own `‖x‖²`, which is a real number. -/
theorem exists_real {X C : Fin 64 → EReal} {r : Fin 64 → ℝ} (hX : ∀ d, X d = (r d : EReal)) (hC : ∀ d, C d ≠ ⊤ ∧ C d ≠ ⊥) :
    ∃ v : ℝ, part X C = (v : EReal) ∧ dist X C = ((∑ d, r d * r d + v : ℝ) : EReal) := by
  obtain ⟨s, hs⟩ := real_of_finite hC
  refine ⟨(∑ d, -2 * s d * r d) + ∑ d, s d * s d, ?_, ?_⟩
  · simp only [part, hX, hs, ← EReal.coe_mul, sum_coe, ← EReal.coe_add]
  · simp only [dist, hX, hs, ← EReal.coe_mul, sum_coe, ← EReal.coe_add, ← EReal.coe_sub]
    refine congrArg _ ?_
    have e : (∑ d, -2 * s d * r d) = -(2 * ∑ d, r d * s d) := by
      rw [Finset.mul_sum, ← Finset.sum_neg_distrib]
      exact Finset.sum_congr rfl fun d _ => by ring
    rw [e]
    ring

/-- A squared distance between real points is below +infinity. -/
theorem dist_lt_top {X C : Fin 64 → EReal} (hX : ∀ d, X d ≠ ⊤ ∧ X d ≠ ⊥) (hC : ∀ d, C d ≠ ⊤ ∧ C d ≠ ⊥) : dist X C < ⊤ := by
  obtain ⟨r, hr⟩ := real_of_finite hX
  obtain ⟨v, _, e⟩ := exists_real hr hC
  rw [e]
  exact EReal.coe_lt_top _

/-- The scores order two real centers as the squared distances do. -/
theorem lt_iff {X C C' : Fin 64 → EReal} (hX : ∀ d, X d ≠ ⊤ ∧ X d ≠ ⊥) (hC : ∀ d, C d ≠ ⊤ ∧ C d ≠ ⊥)
    (hC' : ∀ d, C' d ≠ ⊤ ∧ C' d ≠ ⊥) : part X C < part X C' ↔ dist X C < dist X C' := by
  obtain ⟨r, hr⟩ := real_of_finite hX
  obtain ⟨v, p, e⟩ := exists_real hr hC
  obtain ⟨v', p', e'⟩ := exists_real hr hC'
  rw [p, p', e, e', EReal.coe_lt_coe_iff, EReal.coe_lt_coe_iff]
  exact (add_lt_add_iff_left _).symm

end Cert.Equation

end
-- ==== Proof.Finite.lean ====
/- The precondition read back. `finite` compares every entry of both arrays with -infinity and
   +infinity and takes the conjunction; when it is 1, every entry is a real number. Also here: the
   constants both programs write, as numbers. -/
module

public import proofs.«01_k».proof.Defs
public import proofs.«01_k».proof.Proof.Gen.Pre_finite
public import Idealize.ShloMosaic.Lib.Pointwise
public import Idealize.ShloMosaic.Lib.ReduceAll

@[expose] public section

set_option maxRecDepth 16384

noncomputable section

namespace Cert.Finite

open Idealize.ShloMosaic Idealize.SL.Sem

/-- The pattern of +infinity. -/
theorem ofBits_top : Ideal.ofBits .f32 0x7F800000#32 = ⊤ := by
  simp [Ideal.ofBits, Ideal.ieee]
/-- The pattern of -infinity. -/
theorem ofBits_bot : Ideal.ofBits .f32 0xFF800000#32 = ⊥ := by
  simp [Ideal.ofBits, Ideal.ieee]
/-- The pattern of 2.0. -/
theorem ofBits_two : Ideal.ofBits .f32 0x40000000#32 = ((2 : ℝ) : EReal) := by
  simp [Ideal.ofBits, Ideal.ieee, -EReal.coe_mul]; norm_num
/-- The pattern of -2.0. -/
theorem ofBits_neg_two : Ideal.ofBits .f32 0xC0000000#32 = ((-2 : ℝ) : EReal) := by
  simp [Ideal.ofBits, Ideal.ieee, -EReal.coe_mul, -EReal.coe_neg]; norm_num

open Cert.Pre_finite

/-- A value strictly between the two infinities, as the comparisons say it, is neither. -/
theorem between (v : EReal)
    (h : IntOp.andi (Ideal.cmp .ogt v (Ideal.ofBits .f32 0xFF800000#32)) (Ideal.cmp .olt v (Ideal.ofBits .f32 0x7F800000#32)) = 1#1) :
    v ≠ ⊤ ∧ v ≠ ⊥ := by
  rw [ofBits_top, ofBits_bot] at h
  constructor
  · rintro rfl
    simp [IntOp.andi, Ideal.cmp] at h
  · rintro rfl
    simp [IntOp.andi, Ideal.cmp] at h

/-- Under the precondition every entry of the rows and of the centers is a real number. -/
theorem finite_entries (x : FVec Ideal S32768x64 .f32) (c : FVec Ideal S1024x64 .f32)
    (h : Cert.Pre_finite.fn (F := Ideal) x c = fun _ => 1#1) :
    (∀ i, x i ≠ ⊤ ∧ x i ≠ ⊥) ∧ ∀ i, c i ≠ ⊤ ∧ c i ≠ ⊥ := by
  have h0 := congrFun h (fun a => a.elim0)
  obtain ⟨hx, hc⟩ := IntOp.andi_eq_one.1 h0
  haveI : Subsingleton S_.Idx := ⟨fun a b => funext fun i => i.elim0⟩
  exact ⟨fun i => between _ (Host.reduce_andi_all _ _ _ _ _ hx i),
    fun i => between _ (Host.reduce_andi_all _ _ _ _ _ hc i)⟩

end Cert.Finite

end
-- ==== Proof.Array.lean ====
/- What the array holds after the run. Grid point `t` writes rows `4096 t … 4096 t + 4095`; its blocks are
   those rows of the points and all the centers. Where both arrays are real numbers, each stored word is
   the reference's. -/
module

public import proofs.«01_k».proof.Proof.Block
public import proofs.«01_k».proof.Proof.Reference
public import proofs.«01_k».proof.Proof.Equation
public import proofs.«01_k».proof.Proof.Finite

@[expose] public section

set_option maxRecDepth 16384

noncomputable section

namespace Cert.KernelIdeal.Array

open Idealize.ShloMosaic Idealize.ShloMosaic.TcCoe Idealize.SL.Sem
open Cert.KernelIdeal Cert.KernelIdeal.Gen Cert.KernelIdeal.Block Cert.Argmin Cert.Equation
open Cert.ReferenceIdeal.Nearest (nearest squares squares_at squaresOf nearest_best)

variable (m : (ℓ : Loc nD τ sig) → Buf (Elt Ideal) ℓ)

/-- Where the blocks lie: point `t` reads and writes the `t`-th stretch of rows, and all the centers. -/
theorem idx : ∀ t : Fin cfg0.N, win0_0.index t = ![t.val, 0] ∧ win0_1.index t = ![0, 0] ∧ win0_2.index t = ![t.val] :=
  (by decide +kernel : ∀ t : Fin grid0.N, _)

/-- There are eight points. -/
theorem row_lt (t : Fin cfg0.N) (n : Fin 4096) : t.val * 4096 + n.val < 32768 := by
  have h : t.val < 8 := t.isLt
  omega

/-- Row `n` of point `t`'s block is row `4096 t + n` of the points. -/
theorem rows_at (c : Dev nD) (t : Fin cfg0.N) (n : Fin 4096) (d : Fin 64) :
    iblk m c 0 t (ix2 n d)
      = m ((c : Thread nD τ).loc main_arg0) (ix2 (⟨t.val * 4096 + n.val, row_lt t n⟩ : Fin 32768) d) := by
  blk_ext [iblk, V, idx t]

/-- Every point's second block is all the centers. -/
theorem centers_at (c : Dev nD) (t : Fin cfg0.N) (k : Fin 1024) (d : Fin 64) :
    iblk m c 1 t (ix2 k d) = m ((c : Thread nD τ).loc main_arg1) (ix2 k d) := by
  blk_ext [iblk, V, idx t]

/-- Row `i` of the points. -/
def row (x : FVec Ideal S32768x64 .f32) (i : Fin 32768) : Fin 64 → EReal := fun d => x (ix2 i d)

/-- Center `k`. -/
def center (c : FVec Ideal S1024x64 .f32) (k : Fin 1024) : Fin 64 → EReal := fun d => c (ix2 k d)

/-- The block's score, over the arrays. -/
theorem score_at (c : Dev nD) (t : Fin cfg0.N) (n : Fin 4096) (k : ℕ) (h : k < 1024) :
    score (iblk m c 0 t) (iblk m c 1 t) n k
      = part (row (m ((c : Thread nD τ).loc main_arg0)) ⟨t.val * 4096 + n.val, row_lt t n⟩)
          (center (m ((c : Thread nD τ).loc main_arg1)) ⟨k, h⟩) := by
  simp only [score, dif_pos h, rows_at, centers_at, part, row, center, Cert.Finite.ofBits_neg_two]

/-- The reference's squared distance, over the arrays. -/
theorem squaresOf_at (x : FVec Ideal S32768x64 .f32) (c : FVec Ideal S1024x64 .f32) (i : Fin 32768) (k : ℕ) (h : k < 1024) :
    squaresOf x c i k = dist (row x i) (center c ⟨k, h⟩) := by
  rw [squaresOf, dif_pos h, squares_at, Cert.Finite.ofBits_two]
  rfl

/-- Point `t` stores the reference's words, where the arrays are real. -/
theorem stored (c : Dev nD)
    (hx : ∀ i, m ((c : Thread nD τ).loc main_arg0) i ≠ (⊤ : EReal) ∧ m ((c : Thread nD τ).loc main_arg0) i ≠ (⊥ : EReal))
    (hc : ∀ i, m ((c : Thread nD τ).loc main_arg1) i ≠ (⊤ : EReal) ∧ m ((c : Thread nD τ).loc main_arg1) i ≠ (⊥ : EReal))
    (t : Fin cfg0.N) (n : Fin 4096) :
    k0_pay1 (k0_pay291 (k0_pay310 (iblk m c 0 t) (iblk m c 1 t)) (k0_pay313 (iblk m c 0 t) (iblk m c 1 t)) (k0_pay314 (iblk m c 0 t) (iblk m c 1 t)))
        (k0_pay292 (k0_pay310 (iblk m c 0 t) (iblk m c 1 t)) (k0_pay313 (iblk m c 0 t) (iblk m c 1 t)) (k0_pay314 (iblk m c 0 t) (iblk m c 1 t)))
        (k0_pay293 (F := Ideal) (k0_pay310 (iblk m c 0 t) (iblk m c 1 t)) (k0_pay313 (iblk m c 0 t) (iblk m c 1 t)) (k0_pay314 (iblk m c 0 t) (iblk m c 1 t)))
        (ix1 n)
      = nearest (m ((c : Thread nD τ).loc main_arg0)) (m ((c : Thread nD τ).loc main_arg1))
          (ix1 (⟨t.val * 4096 + n.val, row_lt t n⟩ : Fin 32768)) := by
  obtain ⟨z, h⟩ := block_best (iblk m c 0 t) (iblk m c 1 t) n
  have hX : ∀ i, ∀ d, row (m ((c : Thread nD τ).loc main_arg0)) i d ≠ ⊤ ∧ row (m ((c : Thread nD τ).loc main_arg0)) i d ≠ ⊥ :=
    fun i d => hx _
  have hC : ∀ k, ∀ d, center (m ((c : Thread nD τ).loc main_arg1)) k d ≠ ⊤ ∧ center (m ((c : Thread nD τ).loc main_arg1)) k d ≠ ⊥ :=
    fun k d => hc _
  obtain ⟨z', h'⟩ := nearest_best (m ((c : Thread nD τ).loc main_arg0)) (m ((c : Thread nD τ).loc main_arg1))
    ⟨t.val * 4096 + n.val, row_lt t n⟩
    (fun k hk => by rw [squaresOf_at _ _ _ k hk]; exact dist_lt_top (hX _) (hC _)) Cert.Finite.ofBits_top
  refine h.word_unique (fun j k hj hk => ?_) h'
  rw [score_at m c t n j hj, score_at m c t n k hk, squaresOf_at _ _ _ j hj, squaresOf_at _ _ _ k hk]
  exact lt_iff (hX _) (hC _) (hC _)

/-- The result array after the run is the reference's result, where the arrays are real. -/
theorem final (c : Dev nD)
    (hx : ∀ i, m ((c : Thread nD τ).loc main_arg0) i ≠ (⊤ : EReal) ∧ m ((c : Thread nD τ).loc main_arg0) i ≠ (⊥ : EReal))
    (hc : ∀ i, m ((c : Thread nD τ).loc main_arg1) i ≠ (⊤ : EReal) ∧ m ((c : Thread nD τ).loc main_arg1) i ≠ (⊥ : EReal)) :
    (dats m 0 c).arrAt 2 (cfgs 0).N
      = nearest (m ((c : Thread nD τ).loc main_arg0)) (m ((c : Thread nD τ).loc main_arg1)) := by
  refine (dats m 0 c).arrAt_eq_of_covers 2 _ (by decide +kernel) fun t _ y => ?_
  blk_simp
  rw [after0_2]; frame_out
  obtain ⟨n, rfl⟩ : ∃ n : Fin 4096, y = ix1 n := ⟨y 0, eq_ix1 y⟩
  refine (stored m c hx hc t n).trans ?_
  refine congrArg (nearest (m ((c : Thread nD τ).loc main_arg0)) (m ((c : Thread nD τ).loc main_arg1))) ?_
  blk_ext [idx t]

end Cert.KernelIdeal.Array

end
-- ==== Proof.lean ====
/- The certificate's claim, assembled: the programs run and leave their arguments and counters as they
   were; the idealized kernel is the kernel; and where both arrays are real numbers the idealized kernel
   returns what the idealized reference returns. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.Pre_finite
public import proofs.«01_k».proof.Proof.Array
public import Idealize.ShloMosaic.Lib.Claim
public import Idealize.ShloMosaic.Lib.Quiescent

@[expose] public section

set_option maxRecDepth 16384

noncomputable section

namespace Cert.Proof

open Idealize.ShloMosaic Idealize.SL.Sem

/-- The reference runs and leaves its arguments and counters as they were. -/
theorem reference_frame : Cert.quiescent_ReferenceIdeal (hReferenceIdeal := Cert.ReferenceIdeal.Gen.facts) := by
  intro m g _
  hlo_run
  · exact fun _ => ⟨trivial, trivial⟩
  · refine Idealize.ShloMosaic.sem_eq_zero_of_no_sems ?_ _
    decide

/-- On real arrays the kernel's result is the reference's. -/
theorem same_result : Cert.algebraic_KernelIdeal_ReferenceIdeal_pre_finite
    (hKernelIdeal := Cert.KernelIdeal.Gen.facts) (hReferenceIdeal := Cert.ReferenceIdeal.Gen.facts)
    (hPre_finite := Cert.Pre_finite.Gen.facts) := by
  pair_intro
  · run_from Cert.KernelIdeal.Gen.run_main m g
  · hlo_run
    obtain ⟨hx, hc⟩ := Cert.Finite.finite_entries _ _ (hpre c)
    refine Eq.trans ?_ (Cert.KernelIdeal.Array.final m c hx hc).symm
    rw [Cert.ReferenceIdeal.Nearest.nearest_eq]
    rfl

/-- The whole claim: three frames (two of them also under the precondition), the idealization, the value. -/
theorem claim : Cert.Claim :=
  ⟨Cert.Kernel.Gen.facts, Cert.KernelIdeal.Gen.facts, Cert.ReferenceIdeal.Gen.facts, Cert.Pre_finite.Gen.facts,
    fun m g _ => Cert.Kernel.Gen.frame m g,
    fun m g _ => Cert.KernelIdeal.Gen.frame m g,
    fun m g _ => Cert.KernelIdeal.Gen.frame m g,
    reference_frame,
    fun m g _ => reference_frame m g trivial,
    trivial,
    same_result⟩

end Cert.Proof

end
